-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S2048x512 : Shape := ⟨2, ![2048, 512]⟩
abbrev S2 : Shape := ⟨1, ![2]⟩
abbrev S_ : Shape := ⟨0, ![]⟩
abbrev S1 : Shape := ⟨1, ![1]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S4096x512, .bf16⟩
  | .local _ .vmem, ⟨0, _⟩ => ⟨S2048x1024, .bf16⟩
  | .local _ .vmem, ⟨1, _⟩ => ⟨S4096x512, .bf16⟩
  | .local _ .vmem, ⟨2, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let c0 : Index := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v17 : BitVec 32 := Scalar.muli v9 c512_i32
  let v18 : Index := Scalar.indexCast v17
  ![0, v18.toNat]
def k0_off2 (d0 : Dev nD) (c0_i32_11 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v24 : BitVec 32 := Scalar.muli v8 c2048_i32
  let v25 : BitVec 32 := Scalar.addi v24 c0_i32_11
  let c0_i32_19 : BitVec 32 := 0#32
  ![v25.toNat, 0]
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v28 : BitVec 32 := Scalar.muli v2 c4_i32_15
  let v29 : BitVec 32 := Scalar.addi c0_i32_16 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v30 : BitVec 32 := Scalar.muli v5 c2_i32_17
  let v31 : BitVec 32 := Scalar.addi v29 v30
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v32 : BitVec 32 := Scalar.muli v9 c1_i32_18
  let v33 : BitVec 32 := Scalar.addi v31 v32
  v33.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v40 : BitVec 32 := Scalar.muli v2 c4_i32_24
  let v41 : BitVec 32 := Scalar.addi c0_i32_25 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v42 : BitVec 32 := Scalar.muli v5 c2_i32_26
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v44 : BitVec 32 := Scalar.muli v9 c1_i32_27
  let v45 : BitVec 32 := Scalar.addi v43 v44
  v45.toNat
def k0_off3 (d0 : Dev nD) : Fin 2 → Nat :=
  let c0_32 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_31 : BitVec 32 := 512#32
  let v52 : BitVec 32 := Scalar.muli v8 c512_i32_31
  let v53 : Index := Scalar.indexCast v52
  ![0, v53.toNat]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_33 : BitVec 32 := 2048#32
  let v56 : BitVec 32 := Scalar.muli v8 c2048_i32_33
  let v57 : Index := Scalar.indexCast v56
  let c0_34 : Index := 0#32
  ![v57.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geometry.lean ====
/- Which rows and columns of which buffer each access of the exchange kernel touches, and what each buffer
   holds once it has been written: the partner of a device, the rectangles, the contents as functions of the
   devices' argument blocks, and the fact that each store and each remote copy writes exactly those. -/
module

public import proofs.«01_k».proof.Proof.Gen.KernelIdeal
public import proofs.«01_k».proof.Proof.Gen.KernelIdeal.Skeleton
public import Idealize.ShloMosaic.Lib.Pipeline.Value
public import Idealize.ShloMosaic.Lib.Pipeline.Kit
public import Idealize.ShloMosaic.Lib.ViewIndex

@[expose] public section

noncomputable section

namespace Cert.Exchange

open Idealize.ShloMosaic Idealize.ShloMosaic.TcCoe
open Idealize.SL.Sem
open Cert.KernelIdeal Cert.KernelIdeal.Gen

variable {F : FTy → Type} [FloatOps F]

/-! ## The partner along the last mesh axis -/

theorem partner_lt (c : Dev nD) : (4 * (c.val / 4) + 2 * ((c.val / 2) % 2) + 1) - (c.val % 2) < nD := by
  revert c; decide

/-- The device whose last mesh coordinate is the other one, the first two the same. -/
def partner (c : Dev nD) : Dev nD := ⟨(4 * (c.val / 4) + 2 * ((c.val / 2) % 2) + 1) - (c.val % 2), partner_lt c⟩

/-- Taking the partner twice comes back. -/
theorem partner_partner (c : Dev nD) : partner (partner c) = c := by revert c; decide
/-- The partner's last coordinate is one minus the device's own. -/
theorem partner_z (c : Dev nD) : (partner c).val % 2 = 1 - c.val % 2 := by revert c; decide

/-- The exchange of partners, a permutation of the devices. -/
def partners : Dev nD ≃ Dev nD := ⟨partner, partner, partner_partner, partner_partner⟩

/-- The signal and both copies address the partner. -/
theorem dev1_partner (c : Dev nD) : (⟨k0_dev1 c, k0_dev1_lt c⟩ : Dev nD) = partner c := Fin.ext (k0_dev1_eq c)
theorem dev2_partner (c : Dev nD) : (⟨k0_dev2 c, k0_dev2_lt c⟩ : Dev nD) = partner c := Fin.ext (k0_dev2_eq c)
theorem dev3_partner (c : Dev nD) : (⟨k0_dev3 c, k0_dev3_lt c⟩ : Dev nD) = partner c := Fin.ext (k0_dev3_eq c)

/-! ## The buffers and the rectangles -/

abbrev xM : Memref sig .tc .vmem S2048x1024 .bf16 := Memref.whole cc0_stg0_0
abbrev oM : Memref sig .tc .vmem S4096x512 .bf16 := Memref.whole cc0_stg1_0
abbrev cM : Memref sig .tc .vmem S2048x512 .bf16 := Memref.whole cc0_scratch0

theorem half_inb (r : Fin 2) : ∀ a, (![1024 * r.val, 0] : Fin 2 → Nat) a + S1024x512.size a ≤ S2048x512.size a := by
  revert r; decide

/-- Half `r` of the communication buffer: its rows from `1024 r`. -/
abbrev halfRect (r : Fin 2) : Rect S2048x512 := Rect.unit (s := S2048x512) ![1024 * r.val, 0] S1024x512.size (half_inb r)
/-- The rows of the partner's result buffer that device `d`'s copy `r` writes. -/
abbrev landRect (d : Dev nD) (r : Fin 2) : Rect S4096x512 :=
  Rect.unit (s := S4096x512) (k0_off2 d (BitVec.ofNat 32 (1024 * r.val))) S1024x512.size (k0_off2_inb d r)
/-- The rows of its own result buffer that device `d` stores itself. -/
abbrev keepRect (d : Dev nD) : Rect S4096x512 := Rect.unit (s := S4096x512) (k0_off4 d) S2048x512.size (k0_off4_inb d)
/-- The columns of its argument that device `d` sends away. -/
abbrev giveRect (d : Dev nD) : Rect S2048x1024 := Rect.unit (s := S2048x1024) (k0_off1 d) S2048x512.size (k0_off1_inb d)
/-- The columns of its argument that device `d` keeps. -/
abbrev takeRect (d : Dev nD) : Rect S2048x1024 := Rect.unit (s := S2048x1024) (k0_off3 d) S2048x512.size (k0_off3_inb d)
/-- The whole communication buffer as one rectangle. -/
abbrev fullRect : Rect S2048x512 := Rect.unit (s := S2048x512) ![0, 0] S2048x512.size inb_S2048x512_S2048x512_0_0

abbrev half (r : Fin 2) : Memref sig .tc .vmem S1024x512 .bf16 := cM.slice (halfRect r) (fun _ => rfl)
abbrev land (d : Dev nD) (r : Fin 2) : Memref sig .tc .vmem S1024x512 .bf16 := oM.slice (landRect d r) (fun _ => rfl)

/-! ## Which indices they hold -/

theorem mem_half (r : Fin 2) (i : S2048x512.Idx) :
    i ∈ (halfRect r).set ↔ 1024 * r.val ≤ (i 0).val ∧ (i 0).val < 1024 * r.val + 1024 := by
  rw [Rect.mem_set_unit, Fin.forall_fin_two]
  have h : (i 1).val < 512 := (i 1).isLt
  exact ⟨fun h => h.1, fun h' => ⟨h', Nat.zero_le _, by show (i 1).val < 0 + 512; omega⟩⟩

theorem mem_land (d : Dev nD) (r : Fin 2) (i : S4096x512.Idx) :
    i ∈ (landRect d r).set ↔ 2048 * (d.val % 2) + 1024 * r.val ≤ (i 0).val ∧ (i 0).val < 2048 * (d.val % 2) + 1024 * r.val + 1024 := by
  rw [Rect.mem_set_unit, Fin.forall_fin_two, k0_off2_eq]
  have h : (i 1).val < 512 := (i 1).isLt
  exact ⟨fun h => h.1, fun h' => ⟨h', Nat.zero_le _, by show (i 1).val < 0 + 512; omega⟩⟩

theorem mem_keep (d : Dev nD) (i : S4096x512.Idx) :
    i ∈ (keepRect d).set ↔ 2048 * (d.val % 2) ≤ (i 0).val ∧ (i 0).val < 2048 * (d.val % 2) + 2048 := by
  rw [Rect.mem_set_unit, Fin.forall_fin_two, k0_off4_eq]
  have h : (i 1).val < 512 := (i 1).isLt
  exact ⟨fun h => h.1, fun h' => ⟨h', Nat.zero_le _, by show (i 1).val < 0 + 512; omega⟩⟩

/-- The two halves share no index and make up the communication buffer. -/
theorem half_disjoint : Disjoint (halfRect 0).set (halfRect 1).set :=
  Finset.disjoint_left.mpr fun i h h' => by
    rw [mem_half] at h h'
    have e0 : ((0 : Fin 2).val) = 0 := rfl
    have e1 : ((1 : Fin 2).val) = 1 := rfl
    rw [e0] at h; rw [e1] at h'; omega
theorem half_union : (halfRect 0).set ∪ (halfRect 1).set = (Finset.univ : Finset S2048x512.Idx) := by
  ext i
  rw [Finset.mem_union, mem_half, mem_half]
  have e0 : ((0 : Fin 2).val) = 0 := rfl
  have e1 : ((1 : Fin 2).val) = 1 := rfl
  have h : (i 0).val < 2048 := (i 0).isLt
  rw [e0, e1]
  exact iff_of_true (by omega) (Finset.mem_univ _)

/-- The two landing pieces of a device's result share no index, neither shares one with the rows the device stores
    itself, and the three make up the result buffer. -/
theorem land_disjoint (d : Dev nD) : Disjoint (landRect d 0).set (landRect d 1).set :=
  Finset.disjoint_left.mpr fun i h h' => by
    rw [mem_land] at h h'
    have e0 : ((0 : Fin 2).val) = 0 := rfl
    have e1 : ((1 : Fin 2).val) = 1 := rfl
    rw [e0] at h; rw [e1] at h'; omega
theorem keep_disjoint (d : Dev nD) : Disjoint (keepRect d).set ((landRect (partner d) 0).set ∪ (landRect (partner d) 1).set) :=
  Finset.disjoint_left.mpr fun i h h' => by
    rw [Finset.mem_union, mem_land, mem_land, partner_z] at h'
    rw [mem_keep] at h
    have e0 : ((0 : Fin 2).val) = 0 := rfl
    have e1 : ((1 : Fin 2).val) = 1 := rfl
    rw [e0, e1] at h'; omega
theorem keep_union (d : Dev nD) :
    (keepRect d).set ∪ ((landRect (partner d) 0).set ∪ (landRect (partner d) 1).set) = (Finset.univ : Finset S4096x512.Idx) := by
  ext i
  rw [Finset.mem_union, Finset.mem_union, mem_land, mem_land, mem_keep, partner_z]
  have e0 : ((0 : Fin 2).val) = 0 := rfl
  have e1 : ((1 : Fin 2).val) = 1 := rfl
  have h : (i 0).val < 4096 := (i 0).isLt
  rw [e0, e1]
  exact iff_of_true (by omega) (Finset.mem_univ _)

/-! ## The contents -/

section Contents

variable {α : Type}

theorem give_col (d : Dev nD) (i : S2048x512.Idx) : 512 - 512 * (d.val % 2) + (i 1).val < 1024 := by
  have h : (i 1).val < 512 := (i 1).isLt
  omega
theorem out_col (d : Dev nD) (i : S4096x512.Idx) : 512 * (d.val % 2) + (i 1).val < 1024 := by
  have h : (i 1).val < 512 := (i 1).isLt
  omega

/-- The index of the argument block that entry `i` of the communication buffer is read from. -/
def giveIdx (d : Dev nD) (i : S2048x512.Idx) : S2048x1024.Idx :=
  Shape.pair (d := ![2048, 1024]) ⟨(i 0).val, (i 0).isLt⟩ ⟨512 - 512 * (d.val % 2) + (i 1).val, give_col d i⟩
/-- The index of an argument block that entry `i` of device `d`'s result is read from. -/
def outIdx (d : Dev nD) (i : S4096x512.Idx) : S2048x1024.Idx :=
  Shape.pair (d := ![2048, 1024]) ⟨(i 0).val % 2048, Nat.mod_lt _ (by decide)⟩ ⟨512 * (d.val % 2) + (i 1).val, out_col d i⟩
/-- The device whose argument block row `i 0` of device `d`'s result comes from: itself or its partner. -/
def outDev (d : Dev nD) (i : S4096x512.Idx) : Dev nD := if (i 0).val / 2048 = d.val % 2 then d else partner d

/-- What device `d` gathers to send: the columns of its block that its partner keeps. -/
def sent (x : Dev nD → S2048x1024.Idx → α) (d : Dev nD) : S2048x512.Idx → α := fun i => x d (giveIdx d i)
/-- Device `d`'s result: its own columns of both blocks, one above the other. -/
def result (x : Dev nD → S2048x1024.Idx → α) (d : Dev nD) : S4096x512.Idx → α := fun i => x (outDev d i) (outIdx d i)

end Contents

theorem pair_ext {i j : S2048x1024.Idx} (h0 : (i 0).val = (j 0).val) (h1 : (i 1).val = (j 1).val) : i = j :=
  funext fun a => by
    revert a
    rw [Fin.forall_fin_two]
    exact ⟨Fin.ext h0, Fin.ext h1⟩

/-- Where a unit-stride rectangle places its index `j`: each coordinate moved by the offset, in whatever form that is known. -/
theorem unit_emb_val {s : Shape} {off off' size : Fin s.rank → ℕ} (h : off = off') (inb) (j : (Rect.unit (s := s) off size inb).shape.Idx)
    (a : Fin s.rank) : ((Rect.unit (s := s) off size inb).emb j a).val = off' a + (j a).val := by
  subst h; rw [Rect.emb_apply]; show off a + 1 * (j a).val = _; rw [Nat.one_mul]

theorem zero_off : (![0, 0] : Fin 2 → ℕ) = fun _ => 0 := funext fun a => by revert a; decide

variable (x : Dev nD → S2048x1024.Idx → Elt F .bf16) (d : Dev nD)

omit [FloatOps F] in
/-- Reading the columns to send, entry by entry. -/
theorem read_give : xM.view.readAt (Elt F) (giveRect d).toLoadRect (x d) = sent x d := by
  funext j
  show x d ((giveRect d).emb j) = x d (giveIdx d j)
  refine congrArg _ (pair_ext ?_ ?_)
  · exact (unit_emb_val (k0_off1_eq d) _ j 0).trans (Nat.zero_add _)
  · exact unit_emb_val (k0_off1_eq d) _ j 1

/-- What lies in the communication buffer after the first store. -/
theorem stored_sent (f : cc0_scratch0.ty.Contents (Elt F)) :
    (cM.access fullRect : View sig .tc _ _ _).write (Elt F) f (k0_pay1 (xM.view.readAt (Elt F) (giveRect d).toLoadRect (x d))) Finset.univ = sent x d := by
  rw [read_give]
  refine (Memref.write_access_unit_zero_univ (Elt F) cc0_scratch0 zero_off _ f _).trans ?_
  unfold k0_pay1
  exact (shapeCast_self _ _).trans (shapeCast_self _ _)

/-- What lies in the rows a device stores itself after that store: its result there. -/
theorem stored_keep (f : cc0_stg1_0.ty.Contents (Elt F)) (i : S4096x512.Idx) (hi : i ∈ (keepRect d).set) :
    (oM.access (keepRect d) : View sig .tc _ _ _).write (Elt F) f (k0_pay2 (xM.view.readAt (Elt F) (takeRect d).toLoadRect (x d))) Finset.univ i
      = result x d i := by
  obtain ⟨j, -, rfl⟩ := Finset.mem_map.mp (by rw [← Rect.map_emb_univ] at hi; exact hi)
  refine (View.write_emb_of_mem (v := (oM.access (keepRect d) : View sig .tc _ _ _)) (x := j) f _ (Finset.mem_univ _)).trans ?_
  unfold k0_pay2
  rw [shapeCast_self]
  show x d ((takeRect d).emb j) = x (outDev d ((keepRect d).emb j)) (outIdx d ((keepRect d).emb j))
  have h0 : ((keepRect d).emb j 0).val = 2048 * (d.val % 2) + (j 0).val := unit_emb_val (k0_off4_eq d) _ j 0
  have h1 : ((keepRect d).emb j 1).val = (j 1).val := (unit_emb_val (k0_off4_eq d) _ j 1).trans (Nat.zero_add _)
  have hj : (j 0).val < 2048 := (j 0).isLt
  have hd : outDev d ((keepRect d).emb j) = d := if_pos (by rw [h0]; omega)
  rw [hd]
  refine congrArg _ (pair_ext ?_ ?_)
  · refine (unit_emb_val (k0_off3_eq d) (k0_off3_inb d) (show (takeRect d).shape.Idx from j) 0).trans ?_
    show 0 + (j 0).val = ((keepRect d).emb j 0).val % 2048
    rw [h0]; omega
  · refine (unit_emb_val (k0_off3_eq d) (k0_off3_inb d) (show (takeRect d).shape.Idx from j) 1).trans ?_
    show 512 * (d.val % 2) + (j 1).val = 512 * (d.val % 2) + ((keepRect d).emb j 1).val
    rw [h1]

omit [FloatOps F] in
/-- What a copy leaves in the rows it lands in: the partner's result there. -/
theorem landed (r : Fin 2) (f : cc0_stg1_0.ty.Contents (Elt F)) (i : S4096x512.Idx) (hi : i ∈ (landRect d r).set) :
    (land d r).view.write (Elt F) f ((half r).view.read (Elt F) (sent x d)) Finset.univ i = result x (partner d) i := by
  obtain ⟨j, -, rfl⟩ := Finset.mem_map.mp (by rw [← Rect.map_emb_univ] at hi; exact hi)
  refine (View.write_emb_of_mem (v := (land d r).view) (x := j) f _ (Finset.mem_univ _)).trans ?_
  show x d (giveIdx d ((halfRect r).emb j)) = x (outDev (partner d) ((landRect d r).emb j)) (outIdx (partner d) ((landRect d r).emb j))
  have h0 : ((landRect d r).emb j 0).val = 2048 * (d.val % 2) + 1024 * r.val + (j 0).val := unit_emb_val (k0_off2_eq d r) _ j 0
  have h1 : ((landRect d r).emb j 1).val = (j 1).val := (unit_emb_val (k0_off2_eq d r) _ j 1).trans (Nat.zero_add _)
  have g0 : ((halfRect r).emb j 0).val = 1024 * r.val + (j 0).val := unit_emb_val rfl (half_inb r) (show (halfRect r).shape.Idx from j) 0
  have g1 : ((halfRect r).emb j 1).val = (j 1).val := (unit_emb_val rfl (half_inb r) (show (halfRect r).shape.Idx from j) 1).trans (Nat.zero_add _)
  have hj : (j 0).val < 1024 := (j 0).isLt
  have hr : r.val < 2 := r.isLt
  have hd : outDev (partner d) ((landRect d r).emb j) = d := by
    unfold outDev
    rw [h0, partner_z, if_neg (by omega), partner_partner]
  rw [hd]
  refine congrArg _ (pair_ext ?_ ?_)
  · show ((halfRect r).emb j 0).val = ((landRect d r).emb j 0).val % 2048
    rw [h0, g0]; omega
  · show 512 - 512 * (d.val % 2) + ((halfRect r).emb j 1).val = 512 * ((partner d).val % 2) + ((landRect d r).emb j 1).val
    rw [h1, g1, partner_z]; omega

end Cert.Exchange

end
-- ==== Proof.Protocol.lean ====
/- The protocol of the exchange: five semaphore cells on every device, each with a single duty in a single round.
   The runtime's barrier cell of a device is paid by its partner, which hands over the two row blocks of its own
   result buffer the device is about to copy into; the device's two send cells are paid by its own copies, which
   hand back the halves of the communication buffer; its two receive cells are paid by the partner's copies, which
   hand over the row blocks those have landed in. Everything is stated over a cell name `Slot`, once for all five. -/
module

public import proofs.«01_k».proof.Proof.Geometry
public import proofs.«01_k».proof.Proof.Gen.KernelIdeal.Launch
public import Idealize.ShloMosaic.Lib.Pipeline.Launch
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ghost state: the pipeline's copy of the rounds and the exchange's own -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The cells -/

/-- A copy's semaphore: whether it is the receiving one, and which of the two copies. -/
abbrev Port : Type := Bool × Fin 2
/-- A cell's name on its device: the barrier (`none`) or a copy's semaphore. -/
abbrev Slot : Type := Option Port

abbrev snd (r : Fin 2) : Slot := some (false, r)
abbrev rcv (r : Fin 2) : Slot := some (true, r)

abbrev barS : Sem sig := (SemArray.scalar (sig.barrier 0 rfl) : Sems sig S_).sem

theorem port_lt (p : Port) : 2 + 2 * p.1.toNat + p.2.val < 6 := by revert p; decide
/-- The DMA semaphore of a port. -/
def portSem (p : Port) : DmaSem sig := ⟨2 + 2 * p.1.toNat + p.2.val, port_lt p⟩

/-- The kernel's own semaphores, those scoped to its run. -/
abbrev osem : Port → SemLoc sig := fun p => .dma (portSem p)
/-- All five semaphores of the exchange. -/
abbrev xsem : Slot → SemLoc sig
  | none => .reg barS
  | some p => .dma (portSem p)
/-- The cell named `k` of device `c`. -/
abbrev cell (c : Dev nD) (k : Slot) : GSem nD τ sig := ((c : Thread nD τ), xsem k)

theorem xsem_injective : Function.Injective xsem := by
  intro a b h
  rcases a with _ | ⟨a, i⟩ <;> rcases b with _ | ⟨b, j⟩
  · rfl
  · cases h
  · cases h
  · revert h; revert a i b j; decide

theorem cell_injective : Function.Injective (fun ck : Dev nD × Slot => cell ck.1 ck.2) := by
  rintro ⟨c, k⟩ ⟨c', k'⟩ h
  have hc : c = c' := congrArg (fun g : GSem nD τ sig => g.1.1) h
  have hk : k = k' := xsem_injective (congrArg Prod.snd h)
  rw [hc, hk]

/-- The semaphores the program's slices of its two semaphore arrays name. -/
theorem slice_snd0 : ((cc0_scratch1.slice (Rect.unit (s := S2) ![0] S1.size inb_S2_S1_0)).squeeze S_ squeezes_S1_S_).sem = portSem (false, 0) := rfl
theorem slice_snd1 : ((cc0_scratch1.slice (Rect.unit (s := S2) ![1] S1.size inb_S2_S1_1)).squeeze S_ squeezes_S1_S_).sem = portSem (false, 1) := rfl
theorem slice_rcv0 : ((cc0_scratch2.slice (Rect.unit (s := S2) ![0] S1.size inb_S2_S1_0)).squeeze S_ squeezes_S1_S_).sem = portSem (true, 0) := rfl
theorem slice_rcv1 : ((cc0_scratch2.slice (Rect.unit (s := S2) ![1] S1.size inb_S2_S1_1)).squeeze S_ squeezes_S1_S_).sem = portSem (true, 1) := rfl

/-- What one copy pays each of its two semaphores. -/
abbrev N : ℕ := (half 0).view.dmaCredit
theorem N_pos : 0 < N := View.dmaCredit_pos _ (by decide)

omit [FloatOps F] in
/-- A conjunction over the five cells, written out. -/
theorem bigSep_slots (Φ : Slot → sProp 𝕄) :
    bigSep Finset.univ Φ = iprop(Φ none ∗ Φ (snd 0) ∗ Φ (rcv 0) ∗ Φ (snd 1) ∗ Φ (rcv 1)) :=
  bigSep_univ_eq_bigSepL [none, snd 0, rcv 0, snd 1, rcv 1] (by decide) (by decide) Φ

/-! ## What the cells hand over -/

variable (m : (ℓ : Loc nD τ sig) → Buf (Elt F) ℓ) (ρ : Dev nD → PrngReg)

/-- Every device's argument block as launched. -/
def arg (c : Dev nD) : S2048x1024.Idx → Elt F .bf16 := m ((c : Thread nD τ).loc main_arg0)

/-- Half `r` of device `c`'s communication buffer, at `f`. -/
def halfPts (c : Dev nD) (r : Fin 2) (f : S2048x512.Idx → Elt F .bf16) : sProp 𝕄 :=
  (half r).view.loc (c : Thread nD τ) ↦[(half r).view.set]{fullShare} f
/-- The rows of the result buffer of `d`'s partner that `d`'s copy `r` lands in, at `f`. -/
def landPts (d : Dev nD) (r : Fin 2) (f : S4096x512.Idx → Elt F .bf16) : sProp 𝕄 :=
  (land d r).view.loc (partner d : Thread nD τ) ↦[(land d r).view.set]{fullShare} f

omit [FloatOps F] in
instance halfPts_storable (c : Dev nD) (r f) : BI.Storable (upEmb : UEmb _ 𝕄) (halfPts (F := F) c r f) := by unfold halfPts; infer_instance
omit [FloatOps F] in
instance landPts_storable (d : Dev nD) (r f) : BI.Storable (upEmb : UEmb _ 𝕄) (landPts (F := F) d r f) := by unfold landPts; infer_instance

/-- What cell `k` of device `c` hands its waiter. -/
def pay (k : Slot) (c : Dev nD) : sProp 𝕄 :=
  match k with
  | none => iprop((∃ f, landPts c 0 f) ∗ ∃ f, landPts c 1 f)
  | some (false, r) => halfPts c r (sent (arg m) c)
  | some (true, r) => landPts (partner c) r (result (arg m) c)

omit [FloatOps F] in
instance pay_storable (k : Slot) (c : Dev nD) : BI.Storable (upEmb : UEmb _ 𝕄) (pay m k c) := by
  rcases k with _ | ⟨_ | _, r⟩ <;> unfold pay <;> infer_instance

/-- How much cell `k` is paid. -/
def due (k : Slot) : ℕ := match k with
  | none => 1
  | some _ => N

theorem due_pos (k : Slot) : 0 < due k := by
  cases k
  · exact Nat.one_pos
  · exact N_pos

open Classical in
/-- What a semaphore cell of the machine is paid: its due, if it is one of the five of its device. -/
def amountOf (g : GSem nD τ sig) : ℕ := if h : ∃ k, xsem k = g.2 then due h.choose else 1
open Classical in
/-- What a semaphore cell of the machine hands over, if it is one of the five of its device. -/
def payOf (g : GSem nD τ sig) : sProp 𝕄 := if h : ∃ k, xsem k = g.2 then pay m h.choose g.1.1 else iprop(emp)
open Classical in
/-- The one duty of each of the five cells of a device. -/
def dutiesOf (g : GSem nD τ sig) (r : ℕ) : Finset Unit := if r = 0 ∧ g.1.2 = .tc ∧ ∃ k, xsem k = g.2 then {()} else ∅

theorem amountOf_pos (g : GSem nD τ sig) : 0 < amountOf g := by
  unfold amountOf
  split
  · exact due_pos _
  · exact Nat.one_pos

/-- One round, with one duty on each of the five cells of every device. -/
def table : Rounds.Schedule (GSem nD τ sig) Unit 𝕄 where
  duties := dutiesOf
  unitless _ := False
  amount g _ _ := amountOf g
  payload g _ _ := payOf m g
  amount_pos g _ _ _ := amountOf_pos g

omit [FloatOps F] in
instance table_storable (g : GSem nD τ sig) (r : ℕ) (u : Unit) : BI.Storable (upEmb : UEmb _ 𝕄) ((table (F := F) m).payload g r u) := by
  show BI.Storable (upEmb : UEmb _ 𝕄) (payOf m g)
  unfold payOf
  split <;> infer_instance

section Table
variable (c : Dev nD) (k : Slot)

theorem slot_exists : ∃ k', xsem k' = (cell c k).2 := ⟨k, rfl⟩
theorem slot_choose : (slot_exists c k).choose = k := xsem_injective (slot_exists c k).choose_spec

omit [FloatOps F] in
theorem duties_cell : (table (F := F) m).duties (cell c k) 0 = {()} := if_pos ⟨rfl, rfl, slot_exists c k⟩
omit [FloatOps F] in
theorem duties_after (g : GSem nD τ sig) (r : ℕ) (hr : 1 ≤ r) : (table (F := F) m).duties g r = ∅ :=
  if_neg fun h => by have := h.1; omega
omit [FloatOps F] in
theorem amount_cell (u : Unit) : (table (F := F) m).amount (cell c k) 0 u = due k :=
  (dif_pos (slot_exists c k)).trans (by rw [slot_choose])
omit [FloatOps F] in
theorem payload_cell (u : Unit) : (table (F := F) m).payload (cell c k) 0 u = pay m k c :=
  (dif_pos (slot_exists c k)).trans (by rw [slot_choose])
omit [FloatOps F] in
theorem expect_cell : (table (F := F) m).expect (cell c k) 0 = due k := by
  unfold Schedule.expect Schedule.amountOf; rw [duties_cell, Finset.sum_singleton, amount_cell]
omit [FloatOps F] in
/-- What a wait that completes the round collects. -/
theorem rest_cell : bigSep ((table (F := F) m).duties (cell c k) 0 \ ∅) (fun u => (table (F := F) m).payload (cell c k) 0 u) = pay m k c := by
  rw [Finset.sdiff_empty, duties_cell, bigSep_singleton, payload_cell]

end Table

/-! ## What a device owes, and the order of the waits -/

/-- After its first copy a device owes its partner's second receive cell, -/
def owed₂ (c : Dev nD) : CellTallies nD τ sig Unit := 0 + tallyAt (cell (partner c) (rcv 1)) () N
/-- before it, the first one too, -/
def owed₁ (c : Dev nD) : CellTallies nD τ sig Unit := owed₂ c + tallyAt (cell (partner c) (rcv 0)) () N
/-- and at launch its partner's barrier cell. -/
def owed₀ (c : Dev nD) : CellTallies nD τ sig Unit := owed₁ c + tallyAt (cell (partner c) none) () 1

/-- What a device owes at launch to a cell named `k` of its partner. -/
def owedTo (k : Slot) : ℕ := match k with
  | none => 1
  | some (false, _) => 0
  | some (true, _) => N

theorem cell_eq_iff {c d : Dev nD} {k l : Slot} : cell c k = cell d l ↔ c = d ∧ k = l :=
  ⟨fun h => Prod.mk.inj (cell_injective (a₁ := (c, k)) (a₂ := (d, l)) h), fun h => by rw [h.1, h.2]⟩

theorem owed₁_pos {c : Dev nD} {g : GSem nD τ sig} {u : Unit} (h : 0 < owed₁ c g u) : ∃ r, g = cell (partner c) (rcv r) := by
  unfold owed₁ owed₂ at h
  rw [Pi.add_apply, Finsupp.add_apply, Pi.add_apply, Finsupp.add_apply, tallyAt_apply, tallyAt_apply] at h
  by_contra hn
  rw [not_exists] at hn
  rw [if_neg fun h' => hn 1 h'.1, if_neg fun h' => hn 0 h'.1] at h
  exact Nat.lt_irrefl 0 h

theorem owed₀_pos {c : Dev nD} {g : GSem nD τ sig} {u : Unit} (h : 0 < owed₀ c g u) :
    g = cell (partner c) none ∨ ∃ r, g = cell (partner c) (rcv r) := by
  by_cases hg : g = cell (partner c) none
  · exact .inl hg
  · refine .inr (owed₁_pos (u := u) ?_)
    unfold owed₀ at h
    rw [Pi.add_apply, Finsupp.add_apply, tallyAt_apply, if_neg fun h' => hg h'.1] at h
    exact h

theorem tally_same (c : Dev nD) (k l : Slot) (n : ℕ) : tallyAt (cell c l) () n (cell c k) () = if k = l then n else 0 := by
  rw [tallyAt_apply]
  by_cases h : k = l
  · rw [if_pos h, if_pos ⟨by rw [h], rfl⟩]
  · rw [if_neg h, if_neg fun h' => h (cell_eq_iff.mp h'.1).2]
theorem tally_other {c d : Dev nD} (h : c ≠ d) (k l : Slot) (n : ℕ) : tallyAt (cell d l) () n (cell c k) () = 0 := by
  rw [tallyAt_apply, if_neg fun h' => h (cell_eq_iff.mp h'.1).1]

/-- What device `d` owes device `c`'s cell `k` at launch: something only if they are partners. -/
theorem owed₀_at (d c : Dev nD) (k : Slot) : owed₀ d (cell c k) () = if d = partner c then owedTo k else 0 := by
  unfold owed₀ owed₁ owed₂
  rw [zero_add, Pi.add_apply, Finsupp.add_apply, Pi.add_apply, Finsupp.add_apply]
  by_cases h : d = partner c
  · subst h
    rw [partner_partner, if_pos rfl, tally_same, tally_same, tally_same]
    rcases k with _ | ⟨_ | _, r⟩
    · rfl
    · rfl
    · rcases Fin.exists_fin_two.mp ⟨r, rfl⟩ with rfl | rfl
      · exact Nat.zero_add _
      · rfl
  · have hne : c ≠ partner d := fun h' => h (by rw [h', partner_partner])
    rw [tally_other hne, tally_other hne, tally_other hne, if_neg h]

def levDom (g : GSem nD τ sig) : Finset Unit := if g.1.2 = .tc then {()} else ∅
/-- The barrier cells at level one, the receive cells at level two, all others at zero. -/
def lev (g : GSem nD τ sig) (_ : Unit) : ℕ := if g.2 = xsem none then 1 else if g.2 = xsem (rcv 0) ∨ g.2 = xsem (rcv 1) then 2 else 0

theorem levDom_of_ne (g : GSem nD τ sig) (h : g.1.2 ≠ .tc) : levDom g = ∅ := if_neg h
theorem mem_levDom (c : Dev nD) (s : SemLoc sig) : () ∈ levDom ((c : Thread nD τ), s) := by
  rw [show levDom ((c : Thread nD τ), s) = {()} from if_pos rfl]; exact Finset.mem_singleton_self _

theorem lev_bar (c : Dev nD) : lev (cell c none) () = 1 := if_pos rfl
theorem lev_rcv (c : Dev nD) (r : Fin 2) : lev (cell c (rcv r)) () = 2 :=
  (if_neg fun h => by cases h).trans (if_pos (by rcases Fin.exists_fin_two.mp ⟨r, rfl⟩ with rfl | rfl; exacts [.inl rfl, .inr rfl]))

omit [FloatOps F] in
/-- A device may wait on a cell that lies below every cell it owes. -/
theorem mayWait_below (c : Dev nD) (s : SemLoc sig) (b : ℕ) (O : CellTallies nD τ sig Unit) (hs : lev ((c : Thread nD τ), s) () ≤ b)
    (hO : ∀ g u, 0 < O g u → ∃ d k, g = cell d k ∧ b < lev (cell d k) ()) :
    (levAts levDom lev : sProp 𝕄) ⊢ MayWait (c : Thread nD τ) s () O :=
  MayOwe.of_cut (L := levDom) (lev := lev) b
    (fun p hp => by rw [Finset.mem_singleton.mp hp]; exact mem_levDom c s)
    (fun g u hg => by obtain ⟨d, k, rfl, -⟩ := hO g u hg; exact mem_levDom d _)
    (fun p hp => by rw [Finset.mem_singleton.mp hp]; exact hs)
    (fun g u hg => by obtain ⟨d, k, rfl, h⟩ := hO g u hg; exact h)

omit [FloatOps F] in
/-- The barrier wait comes before the copies: the two receive cells owed lie above it. -/
theorem mayWait_bar (c : Dev nD) : (levAts levDom lev : sProp 𝕄) ⊢ MayWait (c : Thread nD τ) (.reg barS) () (owed₁ c) :=
  mayWait_below c _ 1 _ (lev_bar c).le fun g u h => by
    obtain ⟨r, rfl⟩ := owed₁_pos h
    exact ⟨_, _, rfl, by rw [lev_rcv]; decide⟩

omit [FloatOps F] in
/-- The pipeline's own waits lie below everything the kernel owes. -/
theorem mayWait_stage (c : Dev nD) (q : DmaSem sig) (hq : lev ((c : Thread nD τ), .dma q) () = 0) (O : CellTallies nD τ sig Unit)
    (hO : O = owed₀ c ∨ O = 0) : (levAts levDom lev : sProp 𝕄) ⊢ MayWait (c : Thread nD τ) (.dma q) () O := by
  rcases hO with rfl | rfl
  · refine mayWait_below c _ 0 _ hq.le fun g u h => ?_
    rcases owed₀_pos h with rfl | ⟨r, rfl⟩
    · exact ⟨_, _, rfl, by rw [lev_bar]; decide⟩
    · exact ⟨_, _, rfl, by rw [lev_rcv]; decide⟩
  · rw [MayWait_zero]; iintro -; iempintro

end Cert.Exchange

end
-- ==== Proof.Body.lean ====
/- The kernel's body, effect by effect: from what a device is dealt at launch to its result staged, its five cells
   closed and nothing owed. -/
module

public import proofs.«01_k».proof.Proof.Protocol

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Buffers cut into the pieces the copies touch -/

/-- A whole buffer of device `c`, at `f`. -/
abbrev buf (c : Dev nD) (b : Ref sig .tc) (f : b.ty.Contents (Elt F)) : sProp 𝕄 := ((c : Thread nD τ).loc b) ↦{fullShare} f

/-- The rows of its result buffer that device `c` stores itself, at `f`. -/
def keepPts (c : Dev nD) (f : S4096x512.Idx → Elt F .bf16) : sProp 𝕄 :=
  ((c : Thread nD τ).loc cc0_stg1_0) ↦[(keepRect c).set]{fullShare} f

omit [FloatOps F] in
theorem halfPts_eq (c : Dev nD) (r : Fin 2) (f : S2048x512.Idx → Elt F .bf16) :
    halfPts c r f = (((c : Thread nD τ).loc cc0_scratch0) ↦[(halfRect r).set]{fullShare} f : sProp 𝕄) := by
  unfold halfPts; rw [View.set_slice_whole]

omit [FloatOps F] in
/-- The pieces of its own result buffer that device `c`'s partner copies into. -/
theorem landPts_own (c : Dev nD) (r : Fin 2) (f : S4096x512.Idx → Elt F .bf16) :
    landPts (partner c) r f = (((c : Thread nD τ).loc cc0_stg1_0) ↦[(landRect (partner c) r).set]{fullShare} f : sProp 𝕄) := by
  unfold landPts; rw [View.set_slice_whole, partner_partner]

omit [FloatOps F] in
/-- The communication buffer is its two halves. -/
theorem comm_halves (c : Dev nD) (f : S2048x512.Idx → Elt F .bf16) :
    buf c cc0_scratch0 f ⊣⊢ (iprop(halfPts c 0 f ∗ halfPts c 1 f) : sProp 𝕄) := by
  rw [halfPts_eq, halfPts_eq]
  have h := pointsTo_union (ℓ := (c : Thread nD τ).loc cc0_scratch0) (f := f) (q := fullShare) (Ix := Unit) (Name := ℕ) (U := UU) (Lvl := ℕ) half_disjoint
  rw [half_union] at h
  exact h

omit [FloatOps F] in
/-- The result buffer is the rows the device stores and the two pieces its partner's copies land in. -/
theorem out_pieces (c : Dev nD) (f : S4096x512.Idx → Elt F .bf16) :
    buf c cc0_stg1_0 f ⊣⊢ (iprop(keepPts c f ∗ landPts (partner c) 0 f ∗ landPts (partner c) 1 f) : sProp 𝕄) := by
  rw [landPts_own, landPts_own]
  have h := pointsTo_union (ℓ := (c : Thread nD τ).loc cc0_stg1_0) (f := f) (q := fullShare) (Ix := Unit) (Name := ℕ) (U := UU) (Lvl := ℕ) (keep_disjoint c)
  have h' := pointsTo_union (ℓ := (c : Thread nD τ).loc cc0_stg1_0) (f := f) (q := fullShare) (Ix := Unit) (Name := ℕ) (U := UU) (Lvl := ℕ) (land_disjoint (partner c))
  rw [keep_union] at h
  exact ⟨h.1.trans (sep_mono_right h'.1), (sep_mono_right h'.2).trans h.2⟩

/-! ## The pipeline's proof data -/

theorem cfg0_N : cfg0.N = 1 := by decide
def t₀ : Fin cfg0.N := ⟨0, by rw [cfg0_N]; decide⟩
theorem only_point (t : Fin cfg0.N) : t = t₀ := by
  obtain ⟨t, ht⟩ := t
  have := cfg0_N
  exact Fin.ext (by simp only [t₀]; omega)

/-- Every cell's invariant, under the names `K` they were allocated at, and that every cell is at its round. -/
def records (K : Dev nD × Slot → ℕ) : sProp 𝕄 :=
  iprop((bigSep Finset.univ fun ck : Dev nD × Slot => cellInv EX (table m) (K ck) (cell ck.1 ck.2))
    ∗ bigSep Finset.univ fun ck : Dev nD × Slot => reached EX (cell ck.1 ck.2) 0)

instance records_persistent (K : Dev nD × Slot → ℕ) : BI.Persistent (records m K) := by unfold records; infer_instance

omit [FloatOps F] in
theorem inv_of (K : Dev nD × Slot → ℕ) (c : Dev nD) (k : Slot) : records m K ⊢ cellInv EX (table m) (K (c, k)) (cell c k) := by
  unfold records
  exact sep_elim_left.trans (bigSep_elim (Φ := fun ck : Dev nD × Slot => (cellInv EX (table m) (K ck) (cell ck.1 ck.2) : sProp 𝕄)) (Finset.mem_univ (c, k)))
omit [FloatOps F] in
theorem reached_of (K : Dev nD × Slot → ℕ) (c : Dev nD) (k : Slot) : records m K ⊢ reached EX (cell c k) 0 := by
  unfold records
  exact sep_elim_right.trans (bigSep_elim (Φ := fun ck : Dev nD × Slot => (reached EX (cell ck.1 ck.2) 0 : sProp 𝕄)) (Finset.mem_univ (c, k)))

/-- The device whose cell `k` device `c` pays: itself for a send cell, its partner otherwise. -/
def payee (c : Dev nD) (k : Slot) : Dev nD := match k with
  | some (false, _) => c
  | _ => partner c

/-- What device `c` is dealt: the records, its five positions, the tokens of the five duties it pays. -/
def dealt (K : Dev nD × Slot → ℕ) (c : Dev nD) : sProp 𝕄 :=
  iprop(records m K ∗ (bigSep Finset.univ fun k : Slot => atPos EX (cell c k) 0 ∅ 0)
    ∗ bigSep Finset.univ fun k : Slot => dutyTok EX (cell (payee c k) k) 0 ())

/-- The credit for what its partner owes device `c`, and the levels. -/
def credits (c : Dev nD) : sProp 𝕄 :=
  iprop(cred (tallyAt (cell c none) () 1) ∗ cred (tallyAt (cell c (rcv 0)) () N) ∗ cred (tallyAt (cell c (rcv 1)) () N) ∗ levAts levDom lev)

def start (c : Dev nD) : sProp 𝕄 := iprop((∃ K, dealt m K c) ∗ credits c)

/-- Before the kernel's one grid point: what the device is dealt, and its communication buffer. -/
def before₀ (c : Dev nD) : sProp 𝕄 := iprop(start m c ∗ ∃ f, buf c cc0_scratch0 f)
/-- After it: the communication buffer, and all five cells at zero. -/
def after₀ (c : Dev nD) : sProp 𝕄 :=
  iprop((∃ f : S2048x512.Idx → Elt F .bf16, buf c cc0_scratch0 f) ∗ bigSep Finset.univ fun k : Slot => semVal (cell c k) 0)

def dats (_ : Fin 1) (c : Dev nD) : Dat τ (Elt F) Unit ℕ UU ℕ cfg0 c where
  A w := m ((cfg0.win w).arr.view.loc (c : Thread nD τ))
  after w _ := match w with
    | ⟨0, _⟩ => arg m c
    | ⟨1, _⟩ => result (arg m) c
  Φ t := match t with
    | ⟨0, _⟩ => before₀ m c
    | ⟨_ + 1, _⟩ => after₀ c
  q _ := fullShare
  owed t := match t with
    | ⟨0, _⟩ => owed₀ c
    | ⟨_ + 1, _⟩ => 0

abbrev 𝒱₀ : Variants := Variants.none

omit [FloatOps F] in
theorem bigSep_windows (Φ : Fin cfg0.W → sProp 𝕄) : bigSep Finset.univ Φ = iprop(Φ (0 : Fin 2) ∗ Φ (1 : Fin 2)) := bigSep_W0 Φ

theorem fetched_x (c : Dev nD) (d) : (dats m 0 c).before (0 : Fin 2) t₀ d = arg m c := by
  unfold Dat.before
  rw [if_pos (show (cfg0.win (0 : Fin 2)).fetch t₀ = true from rfl)]
  unfold Dat.fetched Dat.blockOf
  funext j
  show arg m c _ = arg m c j
  refine congrArg (arg m c) ?_
  funext a
  refine Fin.ext ?_
  match a with
  | ⟨0, _⟩ => exact (Nat.zero_add _).trans (Nat.one_mul _)
  | ⟨1, _⟩ => exact (Nat.zero_add _).trans (Nat.one_mul _)

/-! ## The remote copies and their waits -/

section Rules
variable (K : Dev nD × Slot → ℕ)

theorem land_amount (c : Dev nD) (r : Fin 2) (p : Port) : (land c r).view.amount (xsem (some p)) = N := rfl

/-- Remote copy `r` of device `c`, whatever else it owes: it gives up half `r` of its communication buffer and the rows of
    its partner's result buffer the copy lands in, and gets the credit its own send cell is to be paid. -/
theorem wp_copy (c n : Dev nD) (r : Fin 2) (hn : n = partner c) {src : Memref sig .tc .vmem S1024x512 .bf16} (hs : src = half r)
    {dst : Memref sig (Dev.tc n : Thread nD τ).2.kind .vmem S1024x512 .bf16} (hd : dst = land c r)
    {hsc : dst.view.ref.isScScratch = false} {hsrc : src.view.WordExact} {hdst : dst.view.WordExact}
    {hsem : DmaTarget.Typed .vmem (xsem (rcv r)) (.remote (Dev.tc n : Thread nD τ) dst (xsem (snd r)) hsc)}
    {α : Type} {Q : α → sProp 𝕄} {k : PUnit → Prog (TpuEff nD τ sig (Elt F) Λ₀ .tc) α}
    (f : S4096x512.Idx → Elt F .bf16) (O : CellTallies nD τ sig Unit) (W : Waits sig Unit) :
    iprop(records m K ∗ halfPts c r (sent (arg m) c) ∗ landPts c r f ∗ owes (c : Thread nD τ) (O + tallyAt (cell (partner c) (rcv r)) () N) W
        ∗ dutyTok EX (cell c (snd r)) 0 () ∗ dutyTok EX (cell (partner c) (rcv r)) 0 ())
      ⊢ iprop(((cred (tallyAt (cell c (snd r)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (xsem (snd r)) hsc) (xsem (rcv r)) hsrc hdst hsem) k) Q) := by
  subst hn hs hd
  iintro ⟨#HR, Hs, Hd, HO, Hts, Htr⟩
  ihave #HIs := (inv_of m K c (snd r)) $$ HR
  ihave #HIr := (inv_of m K (partner c) (rcv r)) $$ HR
  ihave #Hrs := (reached_of m K c (snd r)) $$ HR
  ihave #Hrr := (reached_of m K (partner c) (rcv r)) $$ HR
  unfold halfPts landPts
  iapply (Rounds.wp_send_pointsTo 𝒱₀ EX (table m) (c : Thread nD τ) none (κ₁ := K (c, snd r)) (κ₂ := K (partner c, rcv r))
    (r₁ := 0) (r₂ := 0) (d₁ := ()) (d₂ := ()) (fd := f)
    (by rw [duties_cell]; exact Finset.mem_singleton_self _) (by rw [duties_cell]; exact Finset.mem_singleton_self _)
    () () N (land_amount c r _) (amount_cell m c (snd r) ()) (amount_cell m (partner c) (rcv r) ()) O rfl (W := W)
    (by rw [payload_cell]; exact BI.Entails.refl _)
    (by
      rw [payload_cell]; unfold pay landPts; rw [partner_partner]
      refine Entails.of_eq (pointsTo_congr fun i hi => ?_)
      rw [View.set_slice_whole] at hi
      exact landed (arg m) c r f i hi))
  isplitr; · iexact HIs
  isplitr; · iexact HIr
  isplitl [Hs]; · iexact Hs
  isplitl [Hd]; · iexact Hd
  isplitl [HO]; · iexact HO
  isplitl [Hts]; · iexact Hts
  isplitr; · iexact Hrs
  isplitl [Htr]; · iexact Htr
  iexact Hrr

/-- A wait on one of its copies' cells, when the device owes nothing more: what the cell hands over, and its round done. -/
theorem wp_port (c : Dev nD) (p : Port) {src dst : Memref sig .tc .vmem S1024x512 .bf16} {hsrc : src.view.WordExact} {hdst : dst.view.WordExact}
    (hN : dst.view.dmaCredit = N)
    {α : Type} {Q : α → sProp 𝕄} {k : PUnit → Prog (TpuEff nD τ sig (Elt F) Λ₀ .tc) α} (W : Waits sig Unit) :
    iprop(records m K ∗ cred (tallyAt (cell c (some p)) () N) ∗ owes (c : Thread nD τ) 0 W ∗ atPos EX (cell c (some p)) 0 ∅ 0)
      ⊢ iprop(((pay m (some p) c ∗ owes (c : Thread nD τ) 0 (insert (xsem (some p), ()) W) ∗ semVal (cell c (some p)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (portSem p) src dst hsrc hdst) k) Q) := by
  iintro ⟨#HR, Hc, HO, Hat⟩
  ihave #HI := (inv_of m K c (some p)) $$ HR
  iintro Hk
  iapply (Rounds.wp_wait_rest_token 𝒱₀ EX (table m) (c : Thread nD τ) none (κ := K (c, some p))
      (wpE_waitDma2_eq 𝒱₀ (c : Thread nD τ) none Set.univ) (Set.mem_univ _) () (O := 0) (W := W) (R := 0) (m := 0) (T := ∅)
      (by rw [Nat.zero_add, hN]; exact (expect_cell m c (some p)).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_cell m c (some p))) $$ Hpay
  imod (Rounds.cell_close EX (table m) (Set.mem_univ (K (c, some p))) (fun h => h) (R := 0 + 1) (duties_after m (cell c (some p)))) $$ [Hat] with Hz
  · isplitr; · iexact HI
    iexact Hat
  iapply Hk
  isplitl [Hp]; · iexact Hp
  isplitl [HO] <;> iassumption

end Rules

/-! ## The body -/

theorem half_credit (r : Fin 2) : (half r).view.dmaCredit = N := rfl
theorem land_credit (c : Dev nD) (r : Fin 2) : (land c r).view.dmaCredit = N := rfl

/-- A load from a whole buffer touches the rectangle it names. -/
theorem load_within (b : Ref sig .tc) (S : Finset b.ty.shape.Idx) : (View.whole b).setOn S ⊆ S := by
  intro i hi
  obtain ⟨j, hj, rfl⟩ := Finset.mem_map.mp hi
  exact hj

/-- A buffer of device `c` held whole, its contents known to be `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pre (K : Dev nD × Slot → ℕ) (c : Dev nD) : sProp 𝕄 :=
  iprop(dealt m K c ∗ credits c ∗ (∃ f : S2048x512.Idx → Elt F .bf16, buf c cc0_scratch0 f) ∗ (dats m 0 c).owesAt () t₀.castSucc
    ∗ (∃ d, staged c cc0_stg0_0 ((dats m 0 c).before (0 : Fin 2) t₀ d))
    ∗ (∃ d, staged c cc0_stg1_0 ((dats m 0 c).before (1 : Fin 2) t₀ d)))

def post (c : Dev nD) : sProp 𝕄 :=
  iprop(after₀ c ∗ (dats m 0 c).owesAt () t₀.succ ∗ staged c cc0_stg0_0 (arg m c) ∗ staged c cc0_stg1_0 (result (arg m) c))

set_option maxHeartbeats 1600000 in
/-- The body run from what the device is dealt: the result staged, the cells closed, nothing owed. -/
theorem sound_body (K : Dev nD × Slot → ℕ) (c : Dev nD) (Kt : PUnit → sProp 𝕄) :
    iprop(pre m K c ∗ (post m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, Prog.bind_assoc, wp_deviceId]
  simp only [slice_snd0, slice_snd1, slice_rcv0, slice_rcv1, dev1_partner]
  unfold pre dealt credits
  rw [bigSep_slots, bigSep_slots]
  iintro ⟨⟨⟨#HR, ⟨HaB, HaS0, HaR0, HaS1, HaR1⟩, HtB, HtS0, HtR0, HtS1, HtR1⟩, ⟨HcB, HcR0, HcR1, #Hlev⟩, ⟨%fc, Hcomm⟩, Ho, ⟨%d0, %g0, %hg0, Hx⟩, ⟨%d1, %g1, %hg1, Hout⟩⟩, Hk⟩
  have hx : g0 = arg m c := hg0.trans (fetched_x m c d0)
  subst hx
  unfold Dat.owesAt Pipeline.owesWithin
  icases Ho with ⟨%W, %hW, HO⟩
  rw [show (dats m 0 c).owed t₀.castSucc = owed₀ c from rfl]
  ihave Hpc := (out_pieces c g1).1 $$ Hout
  icases Hpc with ⟨Hkeep, Hl0, Hl1⟩
  -- the signal hands the partner the rows its copies land in
  unfold owed₀
  ihave #HIB := (inv_of m K (partner c) none) $$ HR
  ihave #HrB := (reached_of m K (partner c) none) $$ HR
  iapply (Rounds.wp_signal 𝒱₀ EX (table m) (c : Thread nD τ) none (dst := (partner c : Thread nD τ)) (κ := K (partner c, none))
      (d := ()) (by rw [duties_cell m (partner c) none]; exact Finset.mem_singleton_self _) ((amount_cell m (partner c) none ()).trans (by decide)) () (owed₁ c) rfl)
    $$ [HO HtB Hl0 Hl1]
  · isplitr; · iexact HIB
    isplitl [HO]; · iexact HO
    isplitl [HtB]; · iexact HtB
    isplitl [Hl0 Hl1]
    · rw [payload_cell m (partner c) none]; unfold pay
      isplitl [Hl0]
      · iexists g1; iexact Hl0
      · iexists g1; iexact Hl1
    iexact HrB
  iintro HO
  -- the wait on its own barrier cell brings the partner's
  ihave #HIb := (inv_of m K c none) $$ HR
  iapply (Rounds.wp_wait_rest_token 𝒱₀ EX (table m) (c : Thread nD τ) none (κ := K (c, none))
      (wpE_semWait_eq 𝒱₀ (c : Thread nD τ) none Set.univ) (Set.mem_univ _) () (O := owed₁ c) (W := W) (R := 0) (m := 0) (T := ∅)
      (by rw [expect_cell m c none]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_cell m c none)) $$ Hpay
  unfold pay
  icases Hp with ⟨⟨%h0, Hd0⟩, ⟨%h1, Hd1⟩⟩
  imod (Rounds.cell_close EX (table m) (Set.mem_univ (K (c, none))) (fun h => h) (R := 0 + 1) (duties_after m (cell c none))) $$ [HaB] with HzB
  · isplitr; · iexact HIb
    iexact HaB
  -- the columns to give away are gathered
  iapply (wp_load 𝒱₀ (c : Thread nD τ) none Set.univ (m := xM) (Finset.subset_univ _)) $$ Hx; iintro Hx
  iapply (wp_load 𝒱₀ (c : Thread nD τ) none Set.univ (m := cM) (Finset.subset_univ _)) $$ Hcomm; iintro Hcomm
  iapply (wp_store 𝒱₀ (c : Thread nD τ) none Set.univ (m := cM) (r := fullRect) (Mk := Finset.univ) (Finset.subset_univ _)) $$ Hcomm; iintro Hcomm
  rw [stored_sent (arg m) c fc]
  ihave Hh := (comm_halves c (sent (arg m) c)).1 $$ Hcomm
  icases Hh with ⟨Hh0, Hh1⟩
  -- the two remote copies
  unfold owed₁
  iapply (wp_copy m K c _ 0 (dev2_partner c) rfl rfl h0 (owed₂ c) (insert (SemLoc.reg barS, ()) W)) $$ [Hh0 Hd0 HO HtS0 HtR0]
  · isplitr; · iexact HR
    isplitl [Hh0]; · iexact Hh0
    isplitl [Hd0]; · iexact Hd0
    isplitl [HO]; · iexact HO
    isplitl [HtS0]; · iexact HtS0
    iexact HtR0
  iintro ⟨HcS0, HO⟩
  unfold owed₂
  iapply (wp_copy m K c _ 1 (dev3_partner c) rfl rfl h1 0 (insert (SemLoc.reg barS, ()) W)) $$ [Hh1 Hd1 HO HtS1 HtR1]
  · isplitr; · iexact HR
    isplitl [Hh1]; · iexact Hh1
    isplitl [Hd1]; · iexact Hd1
    isplitl [HO]; · iexact HO
    isplitl [HtS1]; · iexact HtS1
    iexact HtR1
  iintro ⟨HcS1, HO⟩
  -- its own columns of its own rows
  unfold keepPts
  iapply (wp_load 𝒱₀ (c : Thread nD τ) none Set.univ (m := xM) (Finset.subset_univ _)) $$ Hx; iintro Hx
  iapply (wp_load 𝒱₀ (c : Thread nD τ) none Set.univ (m := oM) (S := (keepRect c).set) (load_within cc0_stg1_0 _)) $$ Hkeep; iintro Hkeep
  iapply (wp_store 𝒱₀ (c : Thread nD τ) none Set.univ (m := oM) (r := keepRect c) (Mk := Finset.univ) (S := (keepRect c).set) (by rw [View.setOn_univ, View.set_slice_whole])) $$ Hkeep; iintro Hkeep
  ihave Hkeep := (Entails.of_eq (pointsTo_congr fun i hi => stored_keep (arg m) c g1 i hi)) $$ Hkeep
  -- the waits
  iapply (wp_port m K c (false, 0) (half_credit 0) (insert (SemLoc.reg barS, ()) W)) $$ [HcS0 HO HaS0]
  · isplitr; · iexact HR
    isplitl [HcS0]; · iexact HcS0
    isplitl [HO] <;> iassumption
  iintro ⟨Hh0, HO, HzS0⟩
  iapply (wp_port m K c (true, 0) (land_credit c 0) _) $$ [HcR0 HO HaR0]
  · isplitr; · iexact HR
    isplitl [HcR0]; · iexact HcR0
    isplitl [HO] <;> iassumption
  iintro ⟨Hl0, HO, HzR0⟩
  iapply (wp_port m K c (false, 1) (half_credit 1) _) $$ [HcS1 HO HaS1]
  · isplitr; · iexact HR
    isplitl [HcS1]; · iexact HcS1
    isplitl [HO] <;> iassumption
  iintro ⟨Hh1, HO, HzS1⟩
  iapply (wp_port m K c (true, 1) (land_credit c 1) _) $$ [HcR1 HO HaR1]
  · isplitr; · iexact HR
    isplitl [HcR1]; · iexact HcR1
    isplitl [HO] <;> iassumption
  iintro ⟨Hl1, HO, HzR1⟩
  unfold pay
  rw [wp_ret]; imodintro
  iapply Hk
  unfold post after₀ Dat.owesAt Pipeline.owesWithin
  rw [show (dats m 0 c).owed t₀.succ = 0 from rfl, bigSep_slots]
  isplitl [Hh0 Hh1 HzB HzS0 HzR0 HzS1 HzR1]
  · isplitl [Hh0 Hh1]
    · iexists (sent (arg m) c)
      iapply (comm_halves c (sent (arg m) c)).2
      isplitl [Hh0] <;> iassumption
    isplitl [HzB]; · iexact HzB
    isplitl [HzS0]; · iexact HzS0
    isplitl [HzR0]; · iexact HzR0
    isplitl [HzS1] <;> iassumption
  isplitl [HO]
  · iexists (insert (xsem (rcv 1), ()) (insert (xsem (snd 1), ()) (insert (xsem (rcv 0), ()) (insert (xsem (snd 0), ()) (insert (SemLoc.reg barS, ()) W)))))
    isplitr; · ipureintro; exact fun _ _ => Or.inl trivial
    iexact HO
  isplitl [Hx]
  · iexists _; isplitr; · (ipureintro; rfl)
    iexact Hx
  iexists (result (arg m) c); isplitr; · (ipureintro; rfl)
  iapply (out_pieces c (result (arg m) c)).2
  unfold keepPts
  isplitl [Hkeep]; · iexact Hkeep
  isplitl [Hl0] <;> iassumption

/-- What the launch hands the body at its one grid point. -/
def handed (c : Dev nD) : sProp 𝕄 :=
  iprop(before₀ m c ∗ (dats m 0 c).owesAt () t₀.castSucc
    ∗ (∃ d, staged c cc0_stg0_0 ((dats m 0 c).before (0 : Fin 2) t₀ d))
    ∗ (∃ d, staged c cc0_stg1_0 ((dats m 0 c).before (1 : Fin 2) t₀ d)))

set_option maxRecDepth 4000 in
/-- The body does, at the one grid point, what the pipeline asks of it. -/
theorem body_obligation (c : Dev nD) : BodyObligation (dats (F := F) m 0 c) (defs₀ (F := F)) 𝒱₀ () Set.univ := fun t => by
  rw [only_point t, bigSep_windows, bigSep_windows]
  simp only [owns_whole_eq]
  show handed m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => post m c)
  unfold handed before₀ start
  iintro ⟨⟨⟨⟨%K, Hg⟩, Hc⟩, Hs⟩, Ho, Hx, Hout⟩
  iapply (sound_body m K c fun _ => post m c)
  isplitr []
  · unfold pre
    isplitl [Hg]; · iexact Hg
    isplitl [Hc]; · iexact Hc
    isplitl [Hs]; · iexact Hs
    isplitl [Ho]; · iexact Ho
    isplitl [Hx] <;> iassumption
  · iintro H; iexact H

end Cert.Exchange

end
-- ==== Proof.Run.lean ====
/- The launch: the exchange's ghost state minted for all devices at once, its cells' invariants allocated, the duty
   tokens dealt to the devices that pay them; and the run of the whole program that follows. -/
module

public import proofs.«01_k».proof.Proof.Body
public import Idealize.ShloMosaic.Lib.Pipeline.CollectiveSegs

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The ghost state minted -/

/-- All cells of all devices, -/
def allCells : Finset (GSem nD τ sig) := Finset.univ.map ⟨fun ck : Dev nD × Slot => cell ck.1 ck.2, cell_injective⟩
/-- and the one duty token of each. -/
def allToks : Finset (GSem nD τ sig × ℕ × Unit) :=
  Finset.univ.map ⟨fun ck : Dev nD × Slot => (cell ck.1 ck.2, 0, ()), fun _ _ h => cell_injective (congrArg Prod.fst h)⟩

def u₀ : UU := (initOf (Pipeline.cells cfgs cellOf_inj) (Pipeline.launchToks cfgs cellOf_inj), initOf allCells allToks)

/-- A family over a device's five cells, conjoined. -/
abbrev five (Φ : GSem nD τ sig → sProp 𝕄) (c : Dev nD) : sProp 𝕄 := bigSep Finset.univ fun k : Slot => Φ (cell c k)

/-- What is minted for device `c`: its cells' round states and positions, and its own cells' duty tokens. -/
def minted (c : Dev nD) : sProp 𝕄 :=
  iprop(five (fun g => roundState EX (table m) g 0) c ∗ five (fun g => reached EX g 0) c ∗ five (fun g => atPos EX g 0 ∅ 0) c
    ∗ five (fun g => dutyTok EX g 0 ()) c)

omit [FloatOps F] in
theorem allCells_five (Φ : GSem nD τ sig → sProp 𝕄) : bigSep allCells Φ = bigSep Finset.univ (five Φ) := by
  unfold allCells; rw [bigSep_map, bigSep_univ_prod]; rfl
omit [FloatOps F] in
theorem allToks_five : bigSep allToks (fun x => (dutyTok EX x.1 x.2.1 x.2.2 : sProp 𝕄)) = bigSep Finset.univ (five fun g => dutyTok EX g 0 ()) := by
  unfold allToks; rw [bigSep_map, bigSep_univ_prod]; rfl

omit [FloatOps F] in
theorem minted_all : iprop(bigSep allCells (fun g => roundState EX (table m) g 0) ∗ bigSep allCells (fun g => reached EX g 0)
      ∗ bigSep allCells (fun g => atPos EX g 0 ∅ 0) ∗ bigSep allToks fun x => dutyTok EX x.1 x.2.1 x.2.2)
    ⊢ (bigSep Finset.univ (minted m) : sProp 𝕄) := by
  rw [allCells_five, allCells_five, allCells_five, allToks_five, ← bigSep_sep', ← bigSep_sep', ← bigSep_sep']
  exact Entails.of_eq rfl

omit [FloatOps F] in
theorem mint : BI.own (EX (initOf allCells allToks)) ⊢ (|==> bigSep Finset.univ (minted m) : sProp 𝕄) :=
  (Rounds.fund EX (table m) allCells allToks).trans (BI.bupd_mono (minted_all m))

/-! ## The invariants allocated and the tokens dealt -/

omit [FloatOps F] in
theorem own_sems (c : Dev nD) : (Pipeline.ownSems0 (Ix := Unit) (Name := ℕ) (U := UU) (Lvl := ℕ) (Val := Elt F) (τ := τ) osem c : sProp 𝕄)
    = iprop(semVal (cell c (snd 0)) 0 ∗ semVal (cell c (rcv 0)) 0 ∗ semVal (cell c (snd 1)) 0 ∗ semVal (cell c (rcv 1)) 0) := by
  rw [Pipeline.ownSems0_eq_of_list c osem [(false, 0), (true, 0), (false, 1), (true, 1)] (by decide) (by decide)]; rfl
omit [FloatOps F] in
theorem barrier_sem (c : Dev nD) : (unscopedSems0 c : sProp 𝕄) = semVal (cell c none) 0 := by
  unfold unscopedSems0; rw [bigSep_eq_bigSepL_of_eq [SemLoc.reg barS] (by decide) (by decide)]; rfl

omit [FloatOps F] in
/-- A device's semaphores at zero are its barrier's and its kernel's own. -/
theorem all_sems (c : Dev nD) :
    five (fun g => semVal g 0) c ⊣⊢ iprop(unscopedSems0 c ∗ Pipeline.ownSems0 (Ix := Unit) (Name := ℕ) (U := UU) (Lvl := ℕ) (Val := Elt F) (τ := τ) osem c : sProp 𝕄) := by
  rw [own_sems, barrier_sem]; unfold five; rw [bigSep_slots]

omit [FloatOps F] in
/-- Every device's cells allocated as invariants. -/
theorem allocate (c : Dev nD) :
    iprop(Pipeline.ownSems0 (Ix := Unit) (Name := ℕ) (U := UU) (Lvl := ℕ) (Val := Elt F) (τ := τ) osem c ∗ unscopedSems0 c ∗ minted m c)
      ⊢ |={Set.univ}=> iprop(five (fun g => iprop(∃ κ : ℕ, cellInv EX (table m) κ g)) c ∗ five (fun g => reached EX g 0) c
          ∗ five (fun g => atPos EX g 0 ∅ 0) c ∗ five (fun g => dutyTok EX g 0 ()) c) := by
  unfold minted
  iintro ⟨Ho, Hu, Hst, Hrest⟩
  ihave Hv := (all_sems (F := F) c).2 $$ [Ho Hu]
  · isplitl [Hu] <;> iassumption
  imod (show iprop(five (fun g => semVal g 0) c ∗ five (fun g => roundState EX (table m) g 0) c)
      ⊢ (|={Set.univ}=> five (fun g => iprop(∃ κ : ℕ, cellInv EX (table m) κ g)) c : sProp 𝕄) from by
        rw [← bigSep_sep']
        exact (bigSep_mono fun k _ => (Rounds.body_intro EX (table m) (cell c k)).trans inv_alloc).trans (bigSep_fupd _ _)) $$ [Hv Hst] with HI
  · isplitl [Hv] <;> iassumption
  imodintro
  isplitl [HI] <;> iassumption

theorem payee_payee (c : Dev nD) (k : Slot) : payee (payee c k) k = c := by
  rcases k with _ | ⟨_ | _, r⟩
  · exact partner_partner c
  · rfl
  · exact partner_partner c

/-- Every cell matched with the device that pays it. -/
def payers : Dev nD × Slot ≃ Dev nD × Slot where
  toFun ck := (payee ck.1 ck.2, ck.2)
  invFun ck := (payee ck.1 ck.2, ck.2)
  left_inv ck := Prod.ext (payee_payee ck.1 ck.2) rfl
  right_inv ck := Prod.ext (payee_payee ck.1 ck.2) rfl

omit [FloatOps F] in
/-- The duty tokens, dealt to the devices that pay them. -/
theorem deal : bigSep Finset.univ (five (F := F) fun g => dutyTok EX g 0 ())
    = bigSep Finset.univ fun c : Dev nD => bigSep Finset.univ fun k : Slot => (dutyTok EX (cell (payee c k) k) 0 () : sProp 𝕄) := by
  unfold five
  rw [← bigSep_univ_prod (fun ck : Dev nD × Slot => (dutyTok EX (cell ck.1 ck.2) 0 () : sProp 𝕄)),
    bigSep_univ_equiv payers (fun ck : Dev nD × Slot => (dutyTok EX (cell ck.1 ck.2) 0 () : sProp 𝕄)), bigSep_univ_prod]
  rfl

/-- What device `c` is dealt that no other holds: its positions and the tokens of the duties it pays. -/
def share (c : Dev nD) : sProp 𝕄 :=
  iprop((bigSep Finset.univ fun k : Slot => atPos EX (cell c k) 0 ∅ 0) ∗ bigSep Finset.univ fun k : Slot => dutyTok EX (cell (payee c k) k) 0 ())

omit [FloatOps F] in
/-- The records copied to every device. -/
theorem spread (K : Dev nD × Slot → ℕ) :
    iprop(records m K ∗ bigSep Finset.univ share) ⊢ (bigSep Finset.univ fun c => iprop(∃ K, dealt m K c) : sProp 𝕄) :=
  (sep_mono_left (BI.bigSep_of_persistent Finset.univ (records m K))).trans (by
    rw [← bigSep_sep']
    refine bigSep_mono fun c _ => ?_
    show iprop(records m K ∗ share c) ⊢ iprop(∃ K, dealt m K c)
    unfold share
    iintro H
    iexists K
    unfold dealt
    iexact H)

omit [FloatOps F] in
theorem gather :
    (bigSep Finset.univ fun c => iprop(five (fun g => iprop(∃ κ : ℕ, cellInv EX (table m) κ g)) c ∗ five (fun g => reached EX g 0) c
          ∗ five (fun g => atPos EX g 0 ∅ 0) c ∗ five (fun g => dutyTok EX g 0 ()) c) : sProp 𝕄)
      ⊢ bigSep Finset.univ fun c => iprop(∃ K, dealt m K c) := by
  rw [bigSep_sep', bigSep_sep', bigSep_sep', deal]
  unfold five
  rw [← bigSep_univ_prod (fun ck : Dev nD × Slot => iprop(∃ κ : ℕ, cellInv EX (table m) κ (cell ck.1 ck.2))),
    ← bigSep_univ_prod (fun ck : Dev nD × Slot => (reached EX (cell ck.1 ck.2) 0 : sProp 𝕄))]
  iintro ⟨HI, #Hr, Hat, Htok⟩
  ihave HK := (BI.bigSep_exists_pi Finset.univ (fun (ck : Dev nD × Slot) (κ : ℕ) => (cellInv EX (table m) κ (cell ck.1 ck.2) : sProp 𝕄))) $$ HI
  icases HK with ⟨%K, #HI⟩
  iapply (spread m K)
  isplitr
  · unfold records
    isplitr; · iexact HI
    iexact Hr
  unfold share
  rw [bigSep_sep']
  isplitl [Hat] <;> iassumption

omit [FloatOps F] in
/-- The step taken for all devices together: from their semaphores and what was minted to what each is dealt. -/
theorem glob : (bigSep Finset.univ fun c => iprop(Pipeline.ownSems0 (Ix := Unit) (Name := ℕ) (U := UU) (Lvl := ℕ) (Val := Elt F) (τ := τ) osem c
      ∗ unscopedSems0 c ∗ minted m c) : sProp 𝕄)
    ⊢ |={Set.univ}=> bigSep Finset.univ fun c => iprop(∃ K, dealt m K c) :=
  ((bigSep_mono fun c _ => allocate m c).trans (bigSep_fupd _ _)).trans (BI.fupd_mono (gather m))

/-! ## The launch credit -/

omit [FloatOps F] in
/-- What cell `k` of device `c` is credited at launch: what its partner owes it. -/
theorem launch_cell (c : Dev nD) (k : Slot) :
    tallyOn (cell c k) (launchCredit (Pipeline.owing owed₀) 0 (cell c k)) = (tallyAt (cell c k) () (owedTo k) : CellTallies nD τ sig Unit) := by
  unfold tallyAt
  refine congrArg _ (Finsupp.ext fun u => ?_)
  cases u
  rw [Pipeline.launchCredit_owing, Finsupp.single_eq_same, Finset.sum_congr rfl fun d _ => owed₀_at d c k, Finset.sum_ite_eq',
    if_pos (Finset.mem_univ _)]

omit [FloatOps F] in
theorem launch_five (c : Dev nD) :
    (bigSep (Finset.univ.map ⟨xsem, xsem_injective⟩) fun s : SemLoc sig =>
        cred (tallyOn ((c : Thread nD τ), s) (launchCredit (Pipeline.owing owed₀) 0 ((c : Thread nD τ), s))) : sProp 𝕄)
      = bigSep Finset.univ fun k : Slot => cred (tallyAt (cell c k) () (owedTo k)) := by
  rw [bigSep_map]
  exact bigSep_congr fun k _ => congrArg cred (launch_cell c k)

omit [FloatOps F] in
theorem launch_credit (c : Dev nD) :
    (Pipeline.launchCred owed₀ c : sProp 𝕄) ⊢ bigSep Finset.univ fun k : Slot => cred (tallyAt (cell c k) () (owedTo k)) := by
  unfold Pipeline.launchCred
  refine (bigSep_subset (Finset.subset_univ (Finset.univ.map ⟨xsem, xsem_injective⟩))).trans ?_
  exact Entails.of_eq (launch_five c)

/-! ## The run -/

theorem ownSemFacts : Pipeline.OwnSemFacts cfg0.spec osem := by decide

theorem share_eq (c : Dev nD) (w : Fin cfg0.W) : (dats m 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts levDom lev
        ∗ Pipeline.launchCred owed₀ c ∗ prngReg c (ρ c) ∗ ∃ K, dealt m K c)
      ⊢ |={Set.univ}=> iprop(start m c ∗ emp) := by
  iintro ⟨-, Hlev, Hcr, -, HG⟩
  ihave Hc := (launch_credit (F := F) c) $$ Hcr
  ihave Hc := (Entails.of_eq (bigSep_slots fun k : Slot => (cred (tallyAt (cell c k) () (owedTo k)) : sProp 𝕄))) $$ Hc
  icases Hc with ⟨H1, -, H2, -, H3⟩
  imodintro
  unfold start credits
  isplitl
  · isplitl [HG]; · iexact HG
    isplitl [H1]; · iexact H1
    isplitl [H2]; · iexact H2
    isplitl [H3]; · iexact H3
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scopedRest0_eq]
  unfold after₀
  iintro ⟨Hr, Hz⟩
  ihave Hz := (all_sems (F := F) c).1 $$ Hz
  icases Hz with ⟨Hu, Ho⟩
  isplitl [Hu]; · iexact Hu
  isplitl [Ho] <;> iassumption

theorem stage_waits (c : Dev nD) : (levAts levDom lev : sProp 𝕄) ⊢ Pipeline.cellsWaits cfgs (dats m) () 0 c :=
  Pipeline.cellsWaits_intro cfgs (dats m) () 0 c fun w s t =>
    mayWait_stage c _ (by fin_cases w <;> fin_cases s <;> decide +revert) _ (by
      rcases t with ⟨_ | _, ht⟩
      · exact .inl rfl
      · exact .inr rfl)

/-- What each window's array holds after the run. -/
def finalA (c : Dev nD) (w : Fin cfg0.W) : Buf (Elt F) ((cfg0.win w).arr.view.loc (c : Thread nD τ)) := (dats m 0 c).arrAt w cfg0.N

set_option maxRecDepth 8000 in
/-- The program on all eight devices, for any float values, from any memory with zero counters: every weakly fair
    execution terminates, with each device's two arrays at the computed contents and every semaphore counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := levDom) (lv := lev) (hL := levDom_of_ne) (hwaits := stage_waits m)
    (G := minted m) (G' := fun c => iprop(∃ K, dealt m K c)) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is left as it was. -/
theorem final_arg (c : Dev nD) : finalA m c (0 : Fin 2) = arg m c := (dats (F := F) m 0 c).arrAt_in (0 : Fin 2) rfl _

/-- The result array ends at the exchanged blocks. -/
theorem final_out (c : Dev nD) : finalA m c (1 : Fin 2) = result (arg m) c := by
  have flushed : (cfg0.win (1 : Fin 2)).flush (0 : Fin 1) = true := by decide
  have last := (dats m 0 c).arrAt_succ (1 : Fin 2) (0 : Fin 1)
  rw [if_pos flushed] at last
  have h : (win0_1.blk (0 : Fin 1)).view.read (Elt F) (finalA m c (1 : Fin 2)) = result (arg m) c :=
    (congrArg ((win0_1.blk (0 : Fin 1)).view.read (Elt F)) last).trans (View.read_write_univ _ _)
  exact (Memref.read_access_unit_zero (Elt F) main_v1 (funext fun a => by revert a; decide) _ (finalA m c (1 : Fin 2))).symm.trans h

/-- Every run of the program terminates with each device's result buffer at its columns of both blocks, its argument as it
    was, and every counter at zero. -/
theorem run_main : θ_run defs (onTc (τ := τ) (main (F := F))) ⟨m, fun _ => 0, ρ⟩ (fun r =>
    (∀ c : Dev nD, r.2.mem ((c : Thread nD τ).loc main_v1) = result (arg m) c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_out m c), (h.1 c (0 : Fin 2)).trans (final_arg m c)⟩, h.2⟩)
    (run_arrays m ρ)

end Cert.Exchange

end
-- ==== Proof.Value.lean ====
/- What the exchange computes, as the whole array placed by columns; and the program's claims, each read off the run. -/
module

public import proofs.«01_k».proof.Defs
public import proofs.«01_k».proof.Proof.Run
public import proofs.«01_k».proof.Proof.Gen.Kernel
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.Exchange

open Idealize.ShloMosaic Idealize.ShloMosaic.TcCoe Idealize.SL.Sem
open Idealize.ShloMosaic.Layout

/-! ## The result is the whole array's block of columns -/

section Blocks
open Cert.KernelIdeal

/-- The block number of a device along a dimension cut by the last mesh axis: its last coordinate. -/
theorem last_axis (d : ℕ) : meshLin [2, 2, 2] d [2] = d % 2 := by
  show (d / 1) % 2 * 1 + 0 = d % 2
  rw [Nat.div_one]
  omega

/-- The device a row of the result comes from is the one holding that row of the whole array. -/
theorem outDev_z (d : Dev nD) (i : S4096x512.Idx) : (outDev d i).val % 2 = (i 0).val / 2048 := by
  have h0 : (i 0).val < 4096 := (i 0).isLt
  unfold outDev
  split
  · omega
  · rw [partner_z]
    omega

/-- If every device starts with its rows of one whole array, what the exchange leaves on a device is its columns of that
    array. -/
theorem result_columns {α : Type} (v : (⟨2, ![4096, 1024]⟩ : Shape).Idx → α) (x : Dev nD → S2048x1024.Idx → α)
    (hx : ∀ c, x c = blockN ⟨2, ![2048, 1024]⟩ ⟨2, ![4096, 1024]⟩ (meshBlock [2, 2, 2] ![[2], []] c) v) (c : Dev nD) :
    result x c = blockN ⟨2, ![4096, 512]⟩ ⟨2, ![4096, 1024]⟩ (meshBlock [2, 2, 2] ![[], [2]] c) v := by
  funext i
  unfold result
  rw [hx, blockN_apply, blockN_apply]
  refine congrArg v (funext fun a => Fin.ext ?_)
  rw [TilesN.idx_val, TilesN.idx_val, meshBlock_val, meshBlock_val]
  match a with
  | ⟨0, _⟩ =>
    show meshLin [2, 2, 2] (outDev c i).val [2] * 2048 + (i 0).val % 2048 = 0 * 4096 + (i 0).val
    rw [last_axis, outDev_z]
    omega
  | ⟨1, _⟩ =>
    show 0 * 1024 + (512 * (c.val % 2) + (i 1).val) = meshLin [2, 2, 2] c.val [2] * 512 + (i 1).val
    rw [last_axis]
    omega

end Blocks

/-! ## The reference -/

section Reference
open Cert.ReferenceIdeal

variable {F : FTy → Type} [FloatOps F]

/-- The reference returns its argument: every run of it terminates and changes nothing. -/
theorem run_reference (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m ρ)

end Reference

/-! ## The claims -/

/-- For any float values every run of the kernel ends, its argument as it was, every counter at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (run_main m ρ)

/-- The kernel and its idealized form have the same body table, -/
theorem bodies_same : Cert.Kernel.defs₀ (F := Bits) = Cert.KernelIdeal.defs₀ :=
  congrArg Defs.onTc (funext fun l => funext fun a => by
    match l, a with
    | ⟨0, _⟩, _ => rfl)
/-- so the same program. -/
theorem programs_same : Cert.Kernel.defs (F := Bits) = Cert.KernelIdeal.defs := congrArg (Pipeline.defs Cert.KernelIdeal.pcfgs) bodies_same

/-- In particular at the kernel's own float type, where no operation was replaced; -/
theorem frame_kernel : Cert.quiescent_Kernel := fun m ρ _ => by
  rw [programs_same]
  exact frame_run (F := Bits) m ρ

/-- and at the ideal one. -/
theorem frame_ideal : Cert.quiescent_KernelIdeal := fun m ρ _ => frame_run (F := Ideal) m ρ

/-- The same of the reference, which has no counter. -/
theorem frame_reference : Cert.quiescent_ReferenceIdeal := fun m ρ _ =>
  (θ_run Cert.ReferenceIdeal.defs _ _).mono (fun r h => ⟨h, sem_eq_zero_of_no_sems (by decide) r.2⟩) (run_reference (F := Ideal) m ρ)

/-- No operation was replaced on the way to the idealized kernel. -/
theorem preserves : Cert.preserves_Kernel_KernelIdeal := trivial

/-- Started with each device's rows of the reference's argument, the kernel leaves on each device its columns of the
    reference's result. -/
theorem algebraic : Cert.algebraic_KernelIdeal_ReferenceIdeal := by
  intro m ρ m' ρ' _ hx
  refine ⟨m' _, (θ_run Cert.KernelIdeal.defs _ _).mono (fun _ h c => ⟨(h.1 c).1.trans ?_, (h.1 c).2⟩) (run_main (F := Ideal) m ρ),
    (θ_run Cert.ReferenceIdeal.defs _ _).mono (fun _ h => ⟨h 0, h 0⟩) (run_reference (F := Ideal) m' ρ')⟩
  exact result_columns _ (arg m) hx c

end Cert.Exchange

end
-- ==== Proof.lean ====
/- The certificate: the five claims about the kernel, its idealized form and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, Cert.Exchange.preserves, Cert.Exchange.algebraic⟩

end Cert.Proof

end
